-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "unscale" .f32 0x30D1B717#32 ((1 / 655360000 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256x128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S10000x128 : Shape := ⟨2, ![10000, 128]⟩
abbrev S400x10000 : Shape := ⟨2, ![400, 10000]⟩
abbrev S400x128 : Shape := ⟨2, ![400, 128]⟩
abbrev S400x256 : Shape := ⟨2, ![400, 256]⟩
abbrev S1000x10000 : Shape := ⟨2, ![1000, 10000]⟩
abbrev S1000x128 : Shape := ⟨2, ![1000, 128]⟩
abbrev S1x128 : Shape := ⟨2, ![1, 128]⟩
abbrev S128 : Shape := ⟨1, ![128]⟩

abbrev nBuf : Space → Nat
  | .hbm => 7
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S10000x128, .bf16⟩
  | .hbm, ⟨5, _⟩ => ⟨S10000x10000, .fp8e4m3⟩
  | .hbm, ⟨6, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S256x128, .f32⟩
  | .local _ .vmem, ⟨5, _⟩ => ⟨S400x128, .bf16⟩
  | .local _ .vmem, ⟨6, _⟩ => ⟨S400x128, .bf16⟩
  | .local _ .vmem, ⟨7, _⟩ => ⟨S400x10000, .fp8e4m3⟩
  | .local _ .vmem, ⟨8, _⟩ => ⟨S400x10000, .fp8e4m3⟩
  | .local _ .vmem, ⟨9, _⟩ => ⟨S1000x10000, .fp8e4m3⟩
  | .local _ .vmem, ⟨10, _⟩ => ⟨S1000x10000, .fp8e4m3⟩
  | .local _ .vmem, ⟨11, _⟩ => ⟨S10000x128, .bf16⟩
  | .local _ .vmem, ⟨12, _⟩ => ⟨S1000x128, .f32⟩
  | .local _ .vmem, ⟨13, _⟩ => ⟨S1000x128, .f32⟩
  | .local _ .vmem, ⟨14, _⟩ => ⟨S10000x128, .fp8e4m3⟩
  | .local _ .vmem, ⟨15, _⟩ => ⟨S1x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "unscale" => some ((1 / 655360000 : ℝ) : EReal)
  | _ => none
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S_ : Shape := ⟨0, ![]⟩
abbrev S10000x128 : Shape := ⟨2, ![10000, 128]⟩

abbrev nBuf : Space → Nat
  | .hbm => 11
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S10000x256, .f32⟩
  | .hbm, ⟨5, _⟩ => ⟨S10000x256, .f32⟩
  | .hbm, ⟨6, _⟩ => ⟨S_, .f32⟩
  | .hbm, ⟨7, _⟩ => ⟨S10000x256, .f32⟩
  | .hbm, ⟨8, _⟩ => ⟨S10000x256, .f32⟩
  | .hbm, ⟨9, _⟩ => ⟨S10000x128, .f32⟩
  | .hbm, ⟨10, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.KernelIdeal.Body.lean ====
/- What one run of each kernel body does to the staging buffers: the two passes as triples whose results are the
   payloads of the program's skeletons. Stated at any float instance. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The offsets of every load and store of the two bodies: the origin. -/
theorem origin : (![0, 0] : Fin 2 → ℕ) = fun _ => 0 := by
  funext a; fin_cases a <;> rfl

/-- A buffer into which one value of its whole shape was stored at the origin reads back as that value. -/
theorem read_whole_store {sg : RefSig} {κ : Kind} {sp : Space} {S : Shape} {e : EltTy} (v : View sg κ sp S e)
    (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ fun y => ⟨_, List.mem_cons_self, ?_⟩]
  · exact View.canon_unit_zero h inb w
  · subst h
    rw [Rect.mem_set_unit]
    exact fun a => ⟨Nat.zero_le _, by simpa using (y a).isLt⟩

/-- A load of a buffer's whole shape from the origin reads the buffer's contents. -/
theorem read_whole_load {sg : RefSig} {κ : Kind} {sp : Space} {S : Shape} {e : EltTy} (v : View sg κ sp S e)
    (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

set_option maxHeartbeats 1000000 in
/-- One run of the first pass: from the four inputs' staging buffers at `x0 … x3` it leaves `k0_pay1 x0 x1 x2 x3` in the
    first output's buffer and `k0_pay2 x0` in the second's, the inputs' buffers as they were. -/
theorem pass1_triple (c : Dev nD) (i : grid0.Coords)
    (arg1 : Memref sig .tc .vmem S400x10000 .f32) (harg1 : arg1.IsWhole) (arg2 : Memref sig .tc .vmem S10000x256 .f32) (harg2 : arg2.IsWhole)
    (arg3 : Memref sig .tc .vmem S256x256 .f32) (harg3 : arg3.IsWhole) (arg4 : Memref sig .tc .vmem S256x128 .f32) (harg4 : arg4.IsWhole)
    (arg5 : Memref sig .tc .vmem S400x128 .bf16) (harg5 : arg5.IsWhole) (arg6 : Memref sig .tc .vmem S400x10000 .fp8e4m3) (harg6 : arg6.IsWhole)
    (x0 : Vec F S400x10000 .f32) (x1 : Vec F S10000x256 .f32) (x2 : Vec F S256x256 .f32) (x3 : Vec F S256x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)
            ∗ owns (c : Thread nD τ) arg6 fullShare (k0_pay2 x0)) -∗ K ⟨⟩))
      ⊢ wp frame (wpE (defs₀ (F := F)) Variants.none c none) E
          (cc0__pass1_body i arg1 harg1 arg2 harg2 arg3 harg3 arg4 harg4 arg5 harg5 arg6 harg6) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1
  obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (read_whole_store _ _ origin _ _).trans ?_
    rw [read_whole_load (S := S400x10000) _ _ origin, read_whole_load (S := S10000x256) _ _ origin, read_whole_load (S := S256x256) _ _ origin,
      read_whole_load (S := S256x128) _ _ origin, hf0, hf1, hf2, hf3]
  · iexists _; isplitr
    swap; · iexact H5
    ipureintro
    refine (read_whole_store _ _ origin _ _).trans ?_
    rw [read_whole_load (S := S400x10000) _ _ origin, hf0]

/-- The condition of the second pass's branch: the grid coordinate is 0. -/
abbrev first (i : grid1.Coords) : Prop :=
  (Scalar.cmpi .ne (Scalar.extui (Scalar.cmpi .eq (BitVec.ofNat 32 (i 0).val) 0#32)) 0#32) = 1#1

/-- The branch is taken at the first point and at no other. -/
theorem first_iff : ∀ t : Fin cfg1.N, first (grid1.coords t) ↔ t.val = 0 :=
  (fun t => by
    have ht : t.val < 10 := Nat.lt_of_lt_of_eq t.isLt N_1
    have e0 : (grid1.coords t 0).val = t.val / 1 % 10 := Pipeline.Grid.coords_val t 0 (by decide) rfl
    simp only [first, e0]
    word_cmp
   : ∀ t : Fin grid1.N, first (grid1.coords t) ↔ t.val = 0)

set_option maxHeartbeats 1000000 in
/-- One run of the second pass at the first point: from the inputs' staging buffers at `x0`, `x1` it fills the two scratch
    buffers with `k1_pay3 x1` and `k1_pay4 x1` and leaves `k1_pay5` of the first input and these two in the output's buffer. -/
theorem pass2_triple_first (c : Dev nD) (i : grid1.Coords)
    (arg1 : Memref sig .tc .vmem S1000x10000 .fp8e4m3) (harg1 : arg1.IsWhole) (arg2 : Memref sig .tc .vmem S10000x128 .bf16) (harg2 : arg2.IsWhole)
    (arg3 : Memref sig .tc .vmem S1000x128 .f32) (harg3 : arg3.IsWhole) (arg4 : Memref sig .tc .vmem S10000x128 .fp8e4m3) (harg4 : arg4.IsWhole)
    (arg5 : Memref sig .tc .vmem S1x128 .f32) (harg5 : arg5.IsWhole) (hc : first i)
    (x0 : Vec F S1000x10000 .fp8e4m3) (x1 : Vec F S10000x128 .bf16) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k1_pay5 x0 (k1_pay3 x1) (k1_pay4 x1))
            ∗ owns (c : Thread nD τ) arg4 fullShare (k1_pay3 x1) ∗ owns (c : Thread nD τ) arg5 fullShare (k1_pay4 x1)) -∗ K ⟨⟩))
      ⊢ wp frame (wpE (defs₀ (F := F)) Variants.none c none) E
          (cc1__pass2_body i arg1 harg1 arg2 harg2 arg3 harg3 arg4 harg4 arg5 harg5) K := by
  simp only [cc1__pass2_body_eq_skeleton]; unfold cc1__pass2_body_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_whole_store _ _ origin _ _).trans ?_
    unfold pass2_triple_first.sl.v5 pass2_triple_first.sl.v7 pass2_triple_first.sl.H3_1 pass2_triple_first.sl.H4_1
    rw [read_whole_load (S := S1000x10000) _ _ origin, View.readCov_unit_zero (S := S10000x128) _ origin,
      View.readCov_unit_zero (S := S1x128) _ origin, read_whole_load (S := S10000x128) _ _ origin, hf0, hf1]
  isplitl [H3]
  · iexists _; isplitr
    swap; · iexact H3
    ipureintro
    refine (read_whole_store _ _ origin _ _).trans ?_
    rw [read_whole_load (S := S10000x128) _ _ origin, hf1]
  · iexists _; isplitr
    swap; · iexact H4
    ipureintro
    refine (read_whole_store _ _ origin _ _).trans ?_
    rw [read_whole_load (S := S10000x128) _ _ origin, hf1]

set_option maxHeartbeats 1000000 in
/-- One run of the second pass at a later point: the scratch buffers, at `q` and `u`, are read and stay; the output's buffer
    is left at `k1_pay5 x0 q u`. -/
theorem pass2_triple_later (c : Dev nD) (i : grid1.Coords)
    (arg1 : Memref sig .tc .vmem S1000x10000 .fp8e4m3) (harg1 : arg1.IsWhole) (arg2 : Memref sig .tc .vmem S10000x128 .bf16) (harg2 : arg2.IsWhole)
    (arg3 : Memref sig .tc .vmem S1000x128 .f32) (harg3 : arg3.IsWhole) (arg4 : Memref sig .tc .vmem S10000x128 .fp8e4m3) (harg4 : arg4.IsWhole)
    (arg5 : Memref sig .tc .vmem S1x128 .f32) (harg5 : arg5.IsWhole) (hc : ¬first i)
    (x0 : Vec F S1000x10000 .fp8e4m3) (x1 : Vec F S10000x128 .bf16) (q : Vec F S10000x128 .fp8e4m3) (u : Vec F S1x128 .f32)
    (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare q ∗ owns (c : Thread nD τ) arg5 fullShare u
        ∗ (iprop(owns (c : Thread nD τ) arg1 fullShare x0 ∗ owns (c : Thread nD τ) arg2 fullShare x1
            ∗ owns (c : Thread nD τ) arg3 fullShare (k1_pay5 x0 q u)
            ∗ owns (c : Thread nD τ) arg4 fullShare q ∗ owns (c : Thread nD τ) arg5 fullShare u) -∗ K ⟨⟩))
      ⊢ wp frame (wpE (defs₀ (F := F)) Variants.none c none) E
          (cc1__pass2_body i arg1 harg1 arg2 harg2 arg3 harg3 arg4 harg4 arg5 harg5) K := by
  simp only [cc1__pass2_body_eq_skeleton]; unfold cc1__pass2_body_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_whole_store _ _ origin _ _).trans ?_
    rw [read_whole_load (S := S1000x10000) _ _ origin, read_whole_load (S := S10000x128) _ _ origin,
      read_whole_load (S := S1x128) _ _ origin, hf0, hf3, hf4]
  isplitl [H3]
  · iexists _; isplitr; · ipureintro; exact harg4.read_unread _
    iexact H3
  · iexists _; isplitr; · ipureintro; exact harg5.read_unread _
    iexact H4

end Cert.KernelIdeal.Run

end
-- ==== Proof.KernelIdeal.Region0.lean ====
/- The first pass as a pipeline: its proof data from any contents of the unscoped buffers at entry, and the body's
   obligation at every grid point. -/
module

public import proofs.«01_k».proof.Proof.KernelIdeal.Body
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The unscoped buffers of every core. -/
abbrev Bufs (F : FTy → Type) : Type := Dev nD → Valuation τ sig (Elt F)

variable (V : Bufs F)

/-- The block of window `w`'s array at point `t`, from the contents at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The proof data of the first pass on core `c`: after point `t` each input's buffer holds its block, the outputs' buffers
    hold the two payloads of these blocks; nothing is owed. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay1 (blk0 V c 0 t) (blk0 V c 1 t) (blk0 V c 2 t) (blk0 V c 3 t)
    | ⟨5, _⟩ => k0_pay2 (blk0 V c 0 t)
  Φ _ := Pipeline.ΦA spec0 c
  q _ := fullShare
  owed _ := 0

theorem dat0_A (c : Dev nD) (w : Fin cfg0.W) : (dat0 V c).A w = V c (Proc.devRef .tc (Pipeline.arrRef spec0 w)) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) :
    (dat0 V c).after 4 t = k0_pay1 (blk0 V c 0 t) (blk0 V c 1 t) (blk0 V c 2 t) (blk0 V c 3 t) := by dsimp only [dat0]
theorem dat0_after_5 (c : Dev nD) (t : Fin cfg0.N) : (dat0 V c).after 5 t = k0_pay2 (blk0 V c 0 t) := by dsimp only [dat0]

/-- Before the body of point `t` the staging buffer of the first input holds its block. -/
theorem dat0_before_0 (c : Dev nD) (t : Fin cfg0.N) (d) : (dat0 V c).before 0 t d = blk0 V c 0 t :=
  ((dat0 V c).before_in_eq_fetched 0 rfl (fun _ => rfl) (fun _ _ _ => rfl)
    (fun t => by rw [dat0_after_0]; unfold Dat.blockOf blk0; rw [dat0_A]; try rfl) t d).trans
    (by unfold Dat.fetched Dat.blockOf blk0; rw [dat0_A]; try rfl)
/-- So does the second input's. -/
theorem dat0_before_1 (c : Dev nD) (t : Fin cfg0.N) (d) : (dat0 V c).before 1 t d = blk0 V c 1 t :=
  ((dat0 V c).before_in_eq_fetched 1 rfl (fun _ => rfl) (fun _ _ _ => rfl)
    (fun t => by rw [dat0_after_1]; unfold Dat.blockOf blk0; rw [dat0_A]; try rfl) t d).trans
    (by unfold Dat.fetched Dat.blockOf blk0; rw [dat0_A]; try rfl)
/-- So does the third input's. -/
theorem dat0_before_2 (c : Dev nD) (t : Fin cfg0.N) (d) : (dat0 V c).before 2 t d = blk0 V c 2 t :=
  ((dat0 V c).before_in_eq_fetched 2 rfl (fun _ => rfl) (fun _ _ _ => rfl)
    (fun t => by rw [dat0_after_2]; unfold Dat.blockOf blk0; rw [dat0_A]; try rfl) t d).trans
    (by unfold Dat.fetched Dat.blockOf blk0; rw [dat0_A]; try rfl)
/-- So does the fourth input's. -/
theorem dat0_before_3 (c : Dev nD) (t : Fin cfg0.N) (d) : (dat0 V c).before 3 t d = blk0 V c 3 t :=
  ((dat0 V c).before_in_eq_fetched 3 rfl (fun _ => rfl) (fun _ _ _ => rfl)
    (fun t => by rw [dat0_after_3]; unfold Dat.blockOf blk0; rw [dat0_A]; try rfl) t d).trans
    (by unfold Dat.fetched Dat.blockOf blk0; rw [dat0_A]; try rfl)

/-- What the body of point `t` starts from, window by window. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body of point `t` ends with, window by window. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 3200000 in
/-- The body at any point, from `pre0` to `post0`. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1, dat0_before_2, dat0_before_3]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5]
  iintro ⟨HΦ, Ho, ⟨%d0, H0⟩, ⟨%d1, H1⟩, ⟨%d2, H2⟩, ⟨%d3, H3⟩, ⟨%d4, H4⟩, ⟨%d5, H5⟩⟩
  iapply (pass1_triple c (grid0.coords t) _ _ _ _ _ _ _ _ _ _ _ _ (blk0 V c 0 t) (blk0 V c 1 t) (blk0 V c 2 t) (blk0 V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row for the first pass. -/
theorem defs₀_row0 (t : Fin cfg0.N) : defs₀ (F := F) .tc cfg0.body (cfg0.bodyArgs t (cfg0.slots t)) = bodyAt0 t := by
  unfold defs₀; rw [Defs.onTc_tc]

/-- The pipeline's obligation for the first pass's body. -/
theorem obligation0 (c : Dev nD) : BodyObligation (dat0 (F := F) V c) (defs₀ (F := F)) Variants.none () Set.univ := fun t => by
  rw [bigSep_W0, bigSep_W0, defs₀_row0]
  exact triple_restated (body0 V c t) rfl .rfl fun _ => .rfl

end Cert.KernelIdeal.Run

end
-- ==== Proof.KernelIdeal.Region1.lean ====
/- The second pass as a pipeline: its proof data from any contents of the unscoped buffers at entry. Its invariant names
   what the two scratch buffers hold once the first point has filled them. -/
module

public import proofs.«01_k».proof.Proof.KernelIdeal.Region0

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Bufs F)

/-- The block of window `w`'s array at point `t`, from the contents at entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The second input's block as the first point finds it. -/
abbrev whole1 (c : Dev nD) : Vec F S10000x128 .bf16 := blk1 V c 1 t1_0

/-- The second input's block is the same at every point. -/
theorem blk1_1 (c : Dev nD) (t : Fin cfg1.N) : blk1 V c 1 t = whole1 V c := rfl

/-- The two scratch operands. -/
abbrev sc0 : Memref sig .tc .vmem S10000x128 .fp8e4m3 := Memref.whole cc1_scratch0
abbrev sc1 : Memref sig .tc .vmem S1x128 .f32 := Memref.whole cc1_scratch1

/-- The first pass's staging buffers, at anything: they ride along unused. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The pipeline's plain invariant gives the scratch operands as owned memrefs beside the rest, -/
theorem plain1_split (c : Dev nD) :
    (Pipeline.ΦA spec1 c : sProp 𝕄) ⊢ iprop(rest1 (F := F) c ∗ (∃ d, owns (c : Thread nD τ) sc0 fullShare d)
      ∗ (∃ d, owns (c : Thread nD τ) sc1 fullShare d) ∗ (∃ r, prngReg c r)) := by
  unfold Pipeline.ΦA rest1; rw [scopedRest1_eq]; simp only [sc0, sc1, owns_whole]
  iintro ⟨⟨H1, H2, H3, H4, H5, H6, H7, H8, H9, Ha, Hb⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Ha]; · iexact Ha
  isplitl [Hb]; · iexact Hb
  iexact Hg

/-- and is made of them again. -/
theorem plain1_join (c : Dev nD) :
    iprop(rest1 (F := F) c ∗ (∃ d, owns (c : Thread nD τ) sc0 fullShare d)
      ∗ (∃ d, owns (c : Thread nD τ) sc1 fullShare d) ∗ (∃ r, prngReg c r)) ⊢ (Pipeline.ΦA spec1 c : sProp 𝕄) := by
  unfold Pipeline.ΦA rest1; rw [scopedRest1_eq]; simp only [sc0, sc1, owns_whole]
  iintro ⟨⟨H1, H2, H3, H4, H5, H6, H7, H8, H9⟩, Ha, Hb, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Ha]; · iexact Ha
    iexact Hb
  iexact Hg

/-- The invariant once the first point has run: the scratch operands hold the scaled second input and its factors. -/
def filled (c : Dev nD) : sProp 𝕄 :=
  iprop(rest1 (F := F) c ∗ owns (c : Thread nD τ) sc0 fullShare (k1_pay3 (whole1 V c))
    ∗ owns (c : Thread nD τ) sc1 fullShare (k1_pay4 (whole1 V c)) ∗ (∃ r, prngReg c r))

/-- The invariant before point `n`. -/
def inv1 (c : Dev nD) (n : ℕ) : sProp 𝕄 := if n = 0 then Pipeline.ΦA spec1 c else filled V c

/-- The proof data of the second pass on core `c`. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => k1_pay5 (blk1 V c 0 t) (k1_pay3 (whole1 V c)) (k1_pay4 (whole1 V c))
  Φ t := inv1 V c t.val
  q _ := fullShare
  owed _ := 0

theorem dat1_A (c : Dev nD) (w : Fin cfg1.W) : (dat1 V c).A w = V c (Proc.devRef .tc (Pipeline.arrRef spec1 w)) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) :
    (dat1 V c).after 2 t = k1_pay5 (blk1 V c 0 t) (k1_pay3 (whole1 V c)) (k1_pay4 (whole1 V c)) := by dsimp only [dat1]

/-- Before the body of point `t` the staging buffer of the first input holds its block. -/
theorem dat1_before_0 (c : Dev nD) (t : Fin cfg1.N) (d) : (dat1 V c).before 0 t d = blk1 V c 0 t :=
  ((dat1 V c).before_in_eq_fetched 0 rfl (fun _ => rfl) (fun _ _ _ => rfl)
    (fun t => by rw [dat1_after_0]; unfold Dat.blockOf blk1; rw [dat1_A]; try rfl) t d).trans
    (by unfold Dat.fetched Dat.blockOf blk1; rw [dat1_A]; try rfl)
/-- So does the second input's. -/
theorem dat1_before_1 (c : Dev nD) (t : Fin cfg1.N) (d) : (dat1 V c).before 1 t d = blk1 V c 1 t :=
  ((dat1 V c).before_in_eq_fetched 1 rfl (fun _ => rfl) (fun _ _ _ => rfl)
    (fun t => by rw [dat1_after_1]; unfold Dat.blockOf blk1; rw [dat1_A]; try rfl) t d).trans
    (by unfold Dat.fetched Dat.blockOf blk1; rw [dat1_A]; try rfl)

/-- What the body of point `t` starts from, window by window. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body of point `t` ends with, window by window. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- After a point the scratch operands are filled. -/
theorem inv1_succ (c : Dev nD) (t : Fin cfg1.N) : (dat1 V c).Φ t.succ = filled V c := by
  show inv1 V c (t.val + 1) = _
  unfold inv1; rw [if_neg (Nat.succ_ne_zero _)]

/-- Before the first point the invariant is the plain one, -/
theorem inv1_first (c : Dev nD) (t : Fin cfg1.N) (h : t.val = 0) : (dat1 V c).Φ t.castSucc = Pipeline.ΦA spec1 c := by
  show inv1 V c t.val = _
  unfold inv1; rw [if_pos h]

/-- and before any later one the scratch operands are filled. -/
theorem inv1_later (c : Dev nD) (t : Fin cfg1.N) (h : t.val ≠ 0) : (dat1 V c).Φ t.castSucc = filled V c := by
  show inv1 V c t.val = _
  unfold inv1; rw [if_neg h]

set_option maxHeartbeats 3200000 in
/-- The body at any point, from `pre1` to `post1`: the first point fills the scratch operands, the later ones read them. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1]
  rw [inv1_succ, show (dat1 V c).owesAt () t.succ = (dat1 V c).owesAt () t.castSucc from rfl,
    dat1_after_0, dat1_after_1, dat1_after_2, blk1_1]
  by_cases h : t.val = 0
  · rw [inv1_first V c t h]
    unfold filled
    iintro ⟨HΦ, Ho, ⟨%d0, H0⟩, ⟨%d1, H1⟩, ⟨%d2, H2⟩⟩
    ihave HΦ := (plain1_split c) $$ HΦ
    icases HΦ with ⟨Hr, Ha, Hb, Hg⟩
    iapply (pass2_triple_first c (grid1.coords t) _ _ _ _ _ _ _ _ _ _ ((first_iff t).mpr h) (blk1 V c 0 t) (whole1 V c) Set.univ _)
    isplitl [H0]; · iexact H0
    isplitl [H1]; · iexact H1
    isplitl [H2]; · iexists _; iexact H2
    isplitl [Ha]; · iexact Ha
    isplitl [Hb]; · iexact Hb
    iintro ⟨H0, H1, H2, Ha, Hb⟩
    isplitl [Hr Ha Hb Hg]
    · isplitl [Hr]; · iexact Hr
      isplitl [Ha]; · iexact Ha
      isplitl [Hb]; · iexact Hb
      iexact Hg
    isplitl [Ho]; · iexact Ho
    isplitl [H0]; · iexact H0
    isplitl [H1]; · iexact H1
    iexact H2
  · rw [inv1_later V c t h]
    unfold filled
    iintro ⟨⟨Hr, Ha, Hb, Hg⟩, Ho, ⟨%d0, H0⟩, ⟨%d1, H1⟩, ⟨%d2, H2⟩⟩
    iapply (pass2_triple_later c (grid1.coords t) _ _ _ _ _ _ _ _ _ _ (fun h' => h ((first_iff t).mp h')) (blk1 V c 0 t) (whole1 V c)
      (k1_pay3 (whole1 V c)) (k1_pay4 (whole1 V c)) Set.univ _)
    isplitl [H0]; · iexact H0
    isplitl [H1]; · iexact H1
    isplitl [H2]; · iexists _; iexact H2
    isplitl [Ha]; · iexact Ha
    isplitl [Hb]; · iexact Hb
    iintro ⟨H0, H1, H2, Ha, Hb⟩
    isplitl [Hr Ha Hb Hg]
    · isplitl [Hr]; · iexact Hr
      isplitl [Ha]; · iexact Ha
      isplitl [Hb]; · iexact Hb
      iexact Hg
    isplitl [Ho]; · iexact Ho
    isplitl [H0]; · iexact H0
    isplitl [H1]; · iexact H1
    iexact H2

/-- The body table's row for the second pass. -/
theorem defs₀_row1 (t : Fin cfg1.N) : defs₀ (F := F) .tc cfg1.body (cfg1.bodyArgs t (cfg1.slots t)) = bodyAt1 t := by
  unfold defs₀; rw [Defs.onTc_tc]

/-- The pipeline's obligation for the second pass's body. -/
theorem obligation1 (c : Dev nD) : BodyObligation (dat1 (F := F) V c) (defs₀ (F := F)) Variants.none () Set.univ := fun t => by
  rw [bigSep_W1, bigSep_W1, defs₀_row1]
  exact triple_restated (body1 V c t) rfl .rfl fun _ => .rfl

/-- The plain invariant is what the second pass starts from, -/
theorem enter1 (c : Dev nD) : Pipeline.ΦA spec1 c ⊢ (dat1 V c).Φ 0 := by
  have h : (dat1 V c).Φ 0 = Pipeline.ΦA spec1 c := by
    show inv1 V c 0 = _
    unfold inv1; rw [if_pos rfl]
  rw [h]

/-- and what it gives back at the end, the scratch contents forgotten. -/
theorem leave1 (c : Dev nD) : (dat1 V c).Φ (Fin.last cfg1.N) ⊢ Pipeline.ΦA spec1 c := by
  have h : (dat1 V c).Φ (Fin.last cfg1.N) = filled V c := by
    show inv1 V c (Fin.last cfg1.N).val = _
    unfold inv1; rw [if_neg (by rw [Fin.val_last]; have : cfg1.N = 10 := N_1; omega)]
  rw [h]; unfold filled
  refine BIBase.Entails.trans ?_ (plain1_join c)
  iintro ⟨Hr, Ha, Hb, Hg⟩
  isplitl [Hr]; · iexact Hr
  isplitl [Ha]; · iexists _; iexact Ha
  isplitl [Hb]; · iexists _; iexact Hb
  iexact Hg

end Cert.KernelIdeal.Run

end
-- ==== Proof.KernelIdeal.Run.lean ====
/- The run of the two passes: entered from any launch memory, every execution ends with each unscoped buffer at the contents the
   two pipelines leave, one after the other, and with every semaphore at zero. -/
module

public import proofs.«01_k».proof.Proof.KernelIdeal.Region1
public import proofs.«01_k».proof.Proof.Gen.KernelIdeal.Regions

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F] [Named F]

local notation "𝕄" => MT nD τ sig Unit (Elt F) ℕ (UR sig nD τ) ℕ

variable (m : (ℓ : Loc nD τ sig) → Buf (Elt F) ℓ)

/-- The unscoped buffers at launch, -/
def bufs0 : Bufs F := fun c b => m (c, b)

/-- between the passes, -/
def bufs1 : Bufs F := fun c => Pipeline.afterRegion (dat0 (bufs0 m) c) (bufs0 m c)

/-- and at the end. -/
def bufs2 : Bufs F := fun c => Pipeline.afterRegion (dat1 (bufs1 m) c) (bufs1 m c)

/-- The two passes' proof data, each from what it finds. -/
def pdats : (p : Fin 2) → (c : Dev nD) → Dat τ (Elt F) Unit ℕ (UR sig nD τ) ℕ (cfgs p) c
  | ⟨0, _⟩ => dat0 (bufs0 m)
  | ⟨1, _⟩ => dat1 (bufs1 m)

/-- One level at every tensor-core cell. -/
def lvls : GSem nD τ sig → Finset Unit := fun g => if g.1.2 = .tc then Finset.univ else ∅

theorem lvls_off (g : GSem nD τ sig) (h : g.1.2 ≠ .tc) : lvls g = ∅ := if_neg h

/-- Nothing is owed, so the levels cut nothing. -/
theorem cut (p : Fin 2) :
    Pipeline.LevelCut (pcfgs (F := F)) adm () lvls (fun _ _ => 0) p (fun _ => (0 : CellTallies nD τ sig Unit)) (fun _ => (0 : ℕ)) where
  hι c w s := by
    unfold lvls
    rw [if_pos rfl]
    exact Finset.mem_univ _
  hιb c w s := le_refl _
  hD c g i h := absurd h (lt_irrefl _)

/-- The generator register at anything: what rides through both passes beside the buffers. -/
abbrev gen (c : Dev nD) : sProp 𝕄 := iprop(∃ r, prngReg c r)

/-- The first pass as a segment of the run. -/
def seg0 : RegionSeg (pcfgs (F := F)) adm (pdats m) () defs₀ Variants.none lvls (fun _ _ => 0) 0 :=
  Pipeline.RegionSeg.ofHeldIn _ adm (pdats m) () defs₀ Variants.none lvls (fun _ _ => 0) 0 (fun _ => 0) (Pipeline.ucRefs τ sig)
    gen gen launch0.toP rfl (fun c => (obligation0 (bufs0 m) c).loose) (fun _ _ => rfl) (fun _ => rfl)
    (fun c => (dat0 (bufs0 m) c).share_full fun _ => rfl)
    (fun c => .rfl) (fun c => .rfl)
    (fun _ => 0) (cut 0) (fun _ => iprop(emp)) (bufs0 m) (fun _ _ => rfl)

/-- The second pass as a segment of the run. -/
def seg1 : RegionSeg (pcfgs (F := F)) adm (pdats m) () defs₀ Variants.none lvls (fun _ _ => 0) 1 :=
  Pipeline.RegionSeg.ofHeldIn _ adm (pdats m) () defs₀ Variants.none lvls (fun _ _ => 0) 1 (fun _ => 0) (Pipeline.ucRefs τ sig)
    gen gen launch1.toP rfl (fun c => (obligation1 (bufs1 m) c).loose) (fun _ _ => rfl) (fun _ => rfl)
    (fun c => (dat1 (bufs1 m) c).share_full fun _ => rfl)
    (fun c => enter1 (bufs1 m) c) (fun c => leave1 (bufs1 m) c)
    (fun _ => 0) (cut 1) (fun _ => iprop(emp)) (bufs1 m) (fun _ _ => rfl)

/-- What rides beside the buffers between the segments. -/
abbrev side (c : Dev nD) : sProp 𝕄 :=
  iprop((∃ Wd, owes (c : Thread nD τ) (0 : CellTallies nD τ sig Unit) Wd) ∗ gen c ∗ emp)

/-- The first pass's arrays are among the unscoped buffers, -/
theorem arrays0 : Pipeline.arrRefs (pcfgs (F := F) 0).spec ⊆ Pipeline.ucRefs τ sig :=
  Pipeline.arrRefs_sub_ucRefs _ launch0.win.arr_unscoped

/-- and so are the second pass's. -/
theorem arrays1 : Pipeline.arrRefs (pcfgs (F := F) 1).spec ⊆ Pipeline.ucRefs τ sig :=
  Pipeline.arrRefs_sub_ucRefs _ launch1.win.arr_unscoped

theorem enter_seg0 (c : Dev nD) :
    iprop(StableHlo.held (c : Thread nD τ) (Pipeline.ucRefs τ sig) (bufs0 m c) ∗ side c) ⊢ (seg0 m).pre c :=
  Pipeline.RegionSeg.ofHeldIn_pre (pcs := pcfgs (F := F)) (a := adm) (pdats := pdats m) (ι := ()) (defs₀ := defs₀) (𝒱₀ := Variants.none) (L := lvls)
    (lv := fun _ _ => 0) (p := 0) (D := fun _ => 0) (S := Pipeline.ucRefs τ sig) (X := gen) (Y := gen) (R := fun _ => iprop(emp)) (W := bufs0 m) arrays0 c

theorem leave_seg0 (c : Dev nD) :
    (seg0 m).post c ⊢ iprop(StableHlo.held (c : Thread nD τ) (Pipeline.ucRefs τ sig) (bufs1 m c) ∗ side c) :=
  Pipeline.RegionSeg.ofHeldIn_post arrays0 c

theorem enter_seg1 (c : Dev nD) :
    iprop(StableHlo.held (c : Thread nD τ) (Pipeline.ucRefs τ sig) (bufs1 m c) ∗ side c) ⊢ (seg1 m).pre c :=
  Pipeline.RegionSeg.ofHeldIn_pre (pcs := pcfgs (F := F)) (a := adm) (pdats := pdats m) (ι := ()) (defs₀ := defs₀) (𝒱₀ := Variants.none) (L := lvls)
    (lv := fun _ _ => 0) (p := 1) (D := fun _ => 0) (S := Pipeline.ucRefs τ sig) (X := gen) (Y := gen) (R := fun _ => iprop(emp)) (W := bufs1 m) arrays1 c

theorem leave_seg1 (c : Dev nD) :
    (seg1 m).post c ⊢ iprop(StableHlo.held (c : Thread nD τ) (Pipeline.ucRefs τ sig) (bufs2 m c) ∗ side c) :=
  Pipeline.RegionSeg.ofHeldIn_post arrays1 c

set_option backward.isDefEq.respectTransparency.types false in
/-- Every run ends with each unscoped buffer at `bufs2` and every semaphore at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = bufs2 m c b) ∧ r.2.sem = fun _ => 0) := by
  refine Pipeline.θ_run_regions_kit_dev_sems (pcfgs (F := F)) adm (pdats m) () cellOf_inj emb₁ defs₀ Variants.none lvls (fun _ _ => 0) m ρ main
    (fun _ => [.region (seg0 m), .region (seg1 m)])
    (fun c Q => by
      rewrite [main_chain c, Seg.run_eq_chain,
        show ([Seg.region (seg0 m), Seg.region (seg1 m)] : List (Seg (pcfgs (F := F)) adm (pdats m) () defs₀ Variants.none lvls (fun _ _ => 0))).map Seg.prog = [
          Prog.lift (.customCall (Pipeline.entry 0) ()),
          Prog.lift (.customCall (Pipeline.entry 1) ()) ] from rfl]
      exact .rfl)
    (fun c => by simp only [Seg.pipes_region, Seg.pipes_nil]; decide) (O₀ := 0) lvls_off (fun _ => iprop(emp))
    (initOf (Pipeline.cells cfgs cellOf_inj) (Pipeline.launchToks cfgs cellOf_inj)) ?hu
    (T₀ := fun c => iprop(StableHlo.held (c : Thread nD τ) (Pipeline.ucRefs τ sig) (bufs0 m c) ∗ side c))
    (Tₙ := fun c => StableHlo.held (c : Thread nD τ) (Pipeline.ucRefs τ sig) (bufs2 m c))
    (hch := fun c => ⟨enter_seg0 m c, (leave_seg0 m c).trans (enter_seg1 m c), (leave_seg1 m c).trans ?last⟩)
    (hinit := ?hinit) (QY := fun c s => ∀ b ∈ Pipeline.ucRefs τ sig, s.mem ((c.tc : Thread nD τ).1, b) = bufs2 m c b)
    (hfin := fun c s' => ?hfin) (hQ := fun _ h hz => ⟨h, funext fun g => hz g (.inr (regions_no_unscoped g.2))⟩)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case last =>
    iintro ⟨Hh, HO, -⟩
    isplitl [Hh] <;> iassumption
  case hinit =>
    refine Pipeline.initEach lvls (fun _ _ => 0) fun c => ?_
    rw [show unscopedBufs c (fun b => m ((c.tc : Thread nD τ).loc b)) = StableHlo.held (c.tc : Thread nD τ) (Pipeline.ucRefs τ sig) (bufs0 m c)
        from Pipeline.unscopedBufs_held (Ix := Unit) (Name := ℕ) (U := UR sig nD τ) (Lvl := ℕ) c (bufs0 m c)]
    iintro ⟨⟨Hh, -, HO, -, Hp, -⟩, -⟩
    imodintro
    isplitl [Hh]; · iexact Hh
    isplitl [HO]; · iexists _; iexact HO
    isplitl [Hp]; · iexists _; iexact Hp
    iempintro
  case hfin =>
    unfold StableHlo.held
    iintro ⟨Hh, HSI⟩
    ihave Hr := (pointsTo_read_all (Pipeline.ucRefs τ sig) (fun b => ((c.tc : Thread nD τ).1, b)) (bufs2 m c) s') $$ [Hh HSI]
    · isplitl [Hh] <;> iassumption
    imodintro; iexact Hr

/-- A buffer that is no output of either pass ends as it was at launch. -/
theorem bufs2_input (c : Dev nD) (r : Ref sig .tc)
    (h0 : ∀ w, Pipeline.arrRef spec0 w = r → (cfg0.win w).isOut = false)
    (h1 : ∀ w, Pipeline.arrRef spec1 w = r → (cfg1.win w).isOut = false) :
    bufs2 m c (Proc.devRef .tc r) = m ((c.tc : Thread nD τ).loc r) :=
  (Pipeline.afterRegion_keeps (dat1 (bufs1 m) c) (bufs1 m c) launch1.win.arr_inj (fun w => dat1_A (bufs1 m) c w) r h1).trans
    (Pipeline.afterRegion_keeps (dat0 (bufs0 m) c) (bufs0 m c) launch0.win.arr_inj (fun w => dat0_A (bufs0 m) c w) r h0)

/-- The run as a claim's reader wants it: the arguments as they were, the result the second pass's output array, every
    semaphore at zero. -/
theorem run (ρ : Dev nD → PrngReg) :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_v1) = (dat1 (bufs1 m) c).arrAt 2 cfg1.N)
      ∧ r.2.sem = fun _ => 0) := by
  refine θ_run_mono (run_all m ρ) ?_
  rintro r ⟨h, hs⟩
  refine ⟨fun c => ⟨?_, ?_, ?_, ?_, ?_⟩, hs⟩
  · exact (h c (Proc.devRef .tc main_arg0) (Pipeline.devRef_mem_ucRefs rfl)).trans (bufs2_input m c main_arg0 (by decide) (by decide))
  · exact (h c (Proc.devRef .tc main_arg1) (Pipeline.devRef_mem_ucRefs rfl)).trans (bufs2_input m c main_arg1 (by decide) (by decide))
  · exact (h c (Proc.devRef .tc main_arg2) (Pipeline.devRef_mem_ucRefs rfl)).trans (bufs2_input m c main_arg2 (by decide) (by decide))
  · exact (h c (Proc.devRef .tc main_arg3) (Pipeline.devRef_mem_ucRefs rfl)).trans (bufs2_input m c main_arg3 (by decide) (by decide))
  · exact (h c (Proc.devRef .tc main_v1) (Pipeline.devRef_mem_ucRefs rfl)).trans
      (Pipeline.afterRegion_arr (dat1 (bufs1 m) c) (bufs1 m c) launch1.win.arr_inj 2)

/-- What the second pass finds in its first input is what the first pass left there, -/
theorem bufs1_scaled (c : Dev nD) : bufs1 m c (Proc.devRef .tc main_v0_1) = (dat0 (bufs0 m) c).arrAt 5 cfg0.N :=
  Pipeline.afterRegion_arr (dat0 (bufs0 m) c) (bufs0 m c) launch0.win.arr_inj 5

/-- and likewise in its second. -/
theorem bufs1_hidden (c : Dev nD) : bufs1 m c (Proc.devRef .tc main_v0_0) = (dat0 (bufs0 m) c).arrAt 4 cfg0.N :=
  Pipeline.afterRegion_arr (dat0 (bufs0 m) c) (bufs0 m c) launch0.win.arr_inj 4

end Cert.KernelIdeal.Run

end
-- ==== Proof.Math.lean ====
/- The mathematics of the value claim, on functions of coordinates alone: over finite entries, scaling the two operands of the
   last product up, and the product down again, changes nothing, and the first two products may be bracketed either way. -/
module

public import Idealize.ShloMosaic.PureOps.Ideal.Laws
public import Mathlib.Data.EReal.Inv
public import Mathlib.Tactic.FieldSimp
public import Mathlib.Tactic.Ring

@[expose] public section

noncomputable section

namespace Cert.TwoPass

open Idealize.ShloMosaic
open scoped BigOperators

/-! ## Sums of reals among the extended reals -/

/-- A sum of reals, read among the extended reals, is the sum read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read among the extended reals. -/
theorem coe_max (x y : ℝ) : ((max x y : ℝ) : EReal) = max (x : EReal) (y : EReal) :=
  (EReal.coe_strictMono.monotone.map_max)

/-- An extended real whose larger of itself and its negation is below `⊤` is a real. -/
theorem real_of_abs_lt {x : EReal} (h : max x (-x) < ⊤) : ∃ r : ℝ, x = (r : EReal) := by
  induction x with
  | bot => exact absurd h (by simp)
  | top => exact absurd h (by simp)
  | coe r => exact ⟨r, rfl⟩

/-! ## The hidden layer -/

/-- The hidden layer as the kernel brackets it: row `i`, column `j` of `max ((A·X)·W₁) 0 · W₂`. -/
def hidden {N D H C : ℕ} (A : Fin N → Fin N → EReal) (X : Fin N → Fin D → EReal) (W₁ : Fin D → Fin H → EReal) (W₂ : Fin H → Fin C → EReal)
    (i : Fin N) (j : Fin C) : EReal :=
  ∑ l, max (∑ k, (∑ n, A i n * X n k) * W₁ k l) 0 * W₂ l j

/-- The hidden layer as the reference brackets it: `max (A·(X·W₁)) 0 · W₂`. -/
def hiddenRef {N D H C : ℕ} (A : Fin N → Fin N → EReal) (X : Fin N → Fin D → EReal) (W₁ : Fin D → Fin H → EReal) (W₂ : Fin H → Fin C → EReal)
    (i : Fin N) (j : Fin C) : EReal :=
  ∑ l, max (∑ n, A i n * ∑ k, X n k * W₁ k l) 0 * W₂ l j

/-- Over the reals the product of three matrices may be bracketed either way. -/
theorem assoc_real {N D : ℕ} (a : Fin N → ℝ) (x : Fin N → Fin D → ℝ) (w : Fin D → ℝ) :
    ∑ k, (∑ n, a n * x n k) * w k = ∑ n, a n * ∑ k, x n k * w k := by
  simp only [Finset.sum_mul, Finset.mul_sum]
  rw [Finset.sum_comm]
  exact Finset.sum_congr rfl fun n _ => Finset.sum_congr rfl fun k _ => by ring

/-- So over finite entries both hidden layers are one array of reals. -/
theorem hidden_real {N D H C : ℕ} (a : Fin N → Fin N → ℝ) (x : Fin N → Fin D → ℝ) (w₁ : Fin D → Fin H → ℝ) (w₂ : Fin H → Fin C → ℝ) :
    ∃ z : Fin N → Fin C → ℝ,
      (∀ i j, hidden (fun i n => (a i n : EReal)) (fun n k => (x n k : EReal)) (fun k l => (w₁ k l : EReal)) (fun l j => (w₂ l j : EReal)) i j = (z i j : EReal))
      ∧ ∀ i j, hiddenRef (fun i n => (a i n : EReal)) (fun n k => (x n k : EReal)) (fun k l => (w₁ k l : EReal)) (fun l j => (w₂ l j : EReal)) i j = (z i j : EReal) := by
  refine ⟨fun i j => ∑ l, max (∑ k, (∑ n, a i n * x n k) * w₁ k l) 0 * w₂ l j, fun i j => ?_, fun i j => ?_⟩
  · unfold hidden
    simp only [coe_sum, EReal.coe_mul, coe_max, EReal.coe_zero]
  · unfold hiddenRef
    simp only [assoc_real, coe_sum, EReal.coe_mul, coe_max, EReal.coe_zero]

/-! ## The scale of a column -/

/-- The largest magnitude of a column, and at least `e`. -/
def scale {N : ℕ} (e : EReal) (z : Fin N → EReal) : EReal :=
  max ((Finset.univ : Finset (Fin N)).fold max ⊥ fun n => max (z n) (-(z n))) e

/-- Over finite entries it is a positive real, `e` being one. -/
theorem scale_real {N : ℕ} (e : ℝ) (he : 0 < e) (z : Fin N → ℝ) :
    ∃ u : ℝ, 0 < u ∧ scale (e : EReal) (fun n => (z n : EReal)) = (u : EReal) := by
  have hlt : scale (e : EReal) (fun n => (z n : EReal)) < ⊤ := by
    refine max_lt ?_ (EReal.coe_lt_top e)
    rw [Finset.fold_max_lt]
    refine ⟨bot_lt_top, fun n _ => max_lt (EReal.coe_lt_top _) ?_⟩
    rw [← EReal.coe_neg]; exact EReal.coe_lt_top _
  have hge : (e : EReal) ≤ scale (e : EReal) (fun n => (z n : EReal)) := le_max_right _ _
  generalize scale (e : EReal) (fun n => (z n : EReal)) = s at hlt hge
  induction s with
  | bot => exact absurd hge (by simp)
  | top => exact absurd hlt (lt_irrefl _)
  | coe r => exact ⟨r, lt_of_lt_of_le he (EReal.coe_le_coe_iff.mp hge), rfl⟩

/-! ## The result -/

/-- An element of the result as the kernel computes it from the hidden layer: the operands scaled by `p` and by `q` over the
    column's scale, the product scaled by the column's scale times `r`. -/
def scaled {N C : ℕ} (p q r e : EReal) (A : Fin N → Fin N → EReal) (Z : Fin N → Fin C → EReal) (i : Fin N) (j : Fin C) : EReal :=
  (∑ n, (A i n * p) * (Z n j * Ideal.div q (scale e fun n => Z n j))) * (scale e (fun n => Z n j) * r)

/-- Over finite entries, with `p · q · r = 1`, it is the plain product. -/
theorem scaled_real {N C : ℕ} (p q r e : ℝ) (he : 0 < e) (hpqr : p * q * r = 1) (a : Fin N → Fin N → ℝ) (z : Fin N → Fin C → ℝ)
    (i : Fin N) (j : Fin C) :
    scaled (p : EReal) (q : EReal) (r : EReal) (e : EReal) (fun i n => (a i n : EReal)) (fun n j => (z n j : EReal)) i j
      = ∑ n, (a i n : EReal) * (z n j : EReal) := by
  obtain ⟨u, hu, hs⟩ := scale_real e he fun n => z n j
  unfold scaled
  simp only [hs]
  have hdiv : Ideal.div (q : EReal) (u : EReal) = ((q * u⁻¹ : ℝ) : EReal) := by
    unfold Ideal.div
    rw [if_neg (by exact_mod_cast hu.ne'), ← EReal.coe_inv, ← EReal.coe_mul]
  simp only [hdiv, ← EReal.coe_mul, ← coe_sum]
  congr 1
  rw [Finset.sum_mul]
  refine Finset.sum_congr rfl fun n _ => ?_
  have hu' := hu.ne'
  calc a i n * p * (z n j * (q * u⁻¹)) * (u * r) = a i n * z n j * (p * q * r) * (u⁻¹ * u) := by ring
    _ = a i n * z n j := by rw [hpqr, inv_mul_cancel₀ hu', mul_one, mul_one]

/-- THE EQUATION. Over finite arrays the kernel's result is the reference's, at every row and column. -/
theorem result_eq {N D H C : ℕ} (p q r e : ℝ) (he : 0 < e) (hpqr : p * q * r = 1)
    (A : Fin N → Fin N → EReal) (X : Fin N → Fin D → EReal) (W₁ : Fin D → Fin H → EReal) (W₂ : Fin H → Fin C → EReal)
    (hA : ∀ i n, ∃ v : ℝ, A i n = v) (hX : ∀ n k, ∃ v : ℝ, X n k = v) (hW₁ : ∀ k l, ∃ v : ℝ, W₁ k l = v) (hW₂ : ∀ l j, ∃ v : ℝ, W₂ l j = v)
    (i : Fin N) (j : Fin C) :
    scaled (p : EReal) (q : EReal) (r : EReal) (e : EReal) A (hidden A X W₁ W₂) i j = ∑ n, A i n * hiddenRef A X W₁ W₂ n j := by
  choose a ha using hA
  choose x hx using hX
  choose w₁ hw₁ using hW₁
  choose w₂ hw₂ using hW₂
  obtain rfl : A = fun i n => (a i n : EReal) := funext fun i => funext fun n => ha i n
  obtain rfl : X = fun n k => (x n k : EReal) := funext fun n => funext fun k => hx n k
  obtain rfl : W₁ = fun k l => (w₁ k l : EReal) := funext fun k => funext fun l => hw₁ k l
  obtain rfl : W₂ = fun l j => (w₂ l j : EReal) := funext fun l => funext fun j => hw₂ l j
  obtain ⟨z, hz, hz'⟩ := hidden_real a x w₁ w₂
  rw [show hidden (fun i n => (a i n : EReal)) (fun n k => (x n k : EReal)) (fun k l => (w₁ k l : EReal)) (fun l j => (w₂ l j : EReal))
      = fun i j => (z i j : EReal) from funext fun i => funext fun j => hz i j, scaled_real p q r e he hpqr]
  simp only [hz']

/-! ## The constants -/

/-- The word of the first operand's scale is 2560000. -/
theorem word_p : Ideal.ofBits .f32 0x4A1C4000#32 = ((2560000 : ℝ) : EReal) := by
  simp [Ideal.ofBits, Ideal.ieee, -EReal.coe_mul]; norm_num

/-- The word of the second operand's scale is 256. -/
theorem word_q : Ideal.ofBits .f32 0x43800000#32 = ((256 : ℝ) : EReal) := by
  simp [Ideal.ofBits, Ideal.ieee, -EReal.coe_mul]; norm_num

/-- The word of the least scale is a positive real. -/
theorem word_e : ∃ e : ℝ, 0 < e ∧ Ideal.ofBits .f32 0x0DA24260#32 = (e : EReal) := by
  refine ⟨_, ?_, by simp only [Ideal.ofBits, Ideal.ieee]; simp [-EReal.coe_mul]; rfl⟩
  positivity

/-- The word a maximum starts from is the least extended real. -/
theorem word_bot : Ideal.ofBits .f32 0xFF800000#32 = ⊥ := by
  simp [Ideal.ofBits, Ideal.ieee]

/-- The word a precondition compares with is the greatest. -/
theorem word_top : Ideal.ofBits .f32 0x7F800000#32 = ⊤ := by
  simp [Ideal.ofBits, Ideal.ieee]

end Cert.TwoPass

end
-- ==== Proof.KernelIdeal.Payload.lean ====
/- The stored values of the two passes read at an index, at the exact instance: sums over the contracted coordinate, the scale of
   a column as a maximum over its entries. -/
module

public import proofs.«01_k».proof.Proof.Gen.KernelIdeal.Skeleton
public import proofs.«01_k».proof.Proof.Math
public import Idealize.ShloMosaic.Lib.MatmulPlain
public import Idealize.ShloMosaic.Lib.ValueIdx
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.ValueIdx
open Cert.TwoPass
open scoped BigOperators

/-- A product of plain dimension numbers into the zero splat, at a row and a column. -/
theorem prod_apply {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant (F := Ideal) ⟨2, ![M, N]⟩ .f32 0x00000000#32) (ix2 r c) = ∑ k : Fin K, lhs (ix2 r k) * rhs (ix2 k c) := by
  subst hd
  refine (Ideal.matmul_plain_apply none lhs rhs _ r c).trans ?_
  rw [constant_apply, Ideal.ofBits_zero_f32, zero_add]

/-- The first pass's first stored value: a block of rows of the hidden layer. -/
theorem k0_pay1_apply (a : Vec Ideal S400x10000 .f32) (x : Vec Ideal S10000x256 .f32) (w₁ : Vec Ideal S256x256 .f32) (w₂ : Vec Ideal S256x128 .f32)
    (r : Fin 400) (j : Fin 128) :
    k0_pay1 (F := Ideal) a x w₁ w₂ (ix2 r j)
      = ∑ l : Fin 256, max (∑ k : Fin 256, (∑ n : Fin 10000, a (ix2 r n) * x (ix2 n k)) * w₁ (ix2 k l)) 0 * w₂ (ix2 l j) := by
  unfold k0_pay1
  rw [truncf_apply]
  refine (prod_apply dot_S400x256_S256x128_S400x128_1_0_0_1_n_n rfl _ w₂ r j).trans ?_
  refine Finset.sum_congr rfl fun l _ => ?_
  rw [maximumf_apply, broadcast_apply]
  rw [show (Scalar.ofBits .f32 0x00000000#32 : Ideal .f32) = 0 from Ideal.ofBits_zero_f32]
  refine congrArg (fun y => max y 0 * w₂ (ix2 l j)) ?_
  refine (prod_apply dot_S400x256_S256x256_S400x256_1_0_0_1_n_n rfl _ w₁ r l).trans ?_
  refine Finset.sum_congr rfl fun k _ => ?_
  exact congrArg (· * w₁ (ix2 k l)) (prod_apply dot_S400x10000_S10000x256_S400x256_1_0_0_1_n_n rfl a x r k)

/-- The first pass's second stored value: the block scaled. -/
theorem k0_pay2_apply (a : Vec Ideal S400x10000 .f32) (i : S400x10000.Idx) :
    k0_pay2 (F := Ideal) a i = a i * ((2560000 : ℝ) : EReal) := by
  unfold k0_pay2
  rw [truncf_apply, mulf_apply, broadcast_apply]
  exact congrArg (a i * ·) word_p

/-- The least scale, as a real. -/
def least : ℝ := word_e.choose
theorem least_pos : 0 < least := word_e.choose_spec.1
theorem least_eq : Ideal.ofBits .f32 0x0DA24260#32 = (least : EReal) := word_e.choose_spec.2

theorem k1_pay1_apply (z : Vec Ideal S10000x128 .bf16) (i : S10000x128.Idx) : k1_pay1 (F := Ideal) z i = z i := by
  unfold k1_pay1
  rw [extf_apply, shapeCast_self]

/-- The scale of a column. -/
theorem k1_pay2_apply (z : Vec Ideal S10000x128 .bf16) (o : Fin 1) (j : Fin 128) :
    k1_pay2 (F := Ideal) z (ix2 o j) = scale (least : EReal) fun n : Fin 10000 => z (ix2 n j) := by
  unfold k1_pay2
  rw [maximumf_apply, broadcast_apply]
  unfold scale
  refine congrArg₂ max ?_ least_eq
  rw [shapeCast_apply _ shapeCasts_S128_S1x128 (ix2 o j) (ix1 j) (by
    rw [Shape.rowMajor_val_two, Shape.rowMajor_val_one]
    have ho : o.val = 0 := by omega
    show j.val = o.val * 128 + j.val
    omega)]
  refine (Ideal.multiReduction_maximumf_single (absf (k1_pay1 (F := Ideal) z)) 0xFF800000#32 reduces_S10000x128_S128 (.inl rfl) rfl (ix1 j)).trans ?_
  show Finset.fold max (Ideal.ofBits .f32 0xFF800000#32) _ _ = _
  rw [word_bot]
  refine Finset.fold_congr fun n _ => ?_
  have hi : reduces_S10000x128_S128.lift (ix1 j) n = ix2 n j := by
    funext a; apply Fin.ext
    match a with
    | ⟨0, _⟩ => rfl
    | ⟨1, _⟩ => rfl
  rw [Function.comp_apply, hi]
  show max (k1_pay1 (F := Ideal) z (ix2 n j)) (-(k1_pay1 (F := Ideal) z (ix2 n j))) = _
  rw [k1_pay1_apply]

/-- A row broadcast down the rows, at a row and a column. -/
theorem rows_apply {M : ℕ} (v : (⟨2, ![1, 128]⟩ : Shape).Idx → EReal) (h : (⟨2, ![1, 128]⟩ : Shape).Broadcasts ⟨2, ![M, 128]⟩) (r : Fin M) (j : Fin 128) :
    broadcastTo ⟨2, ![M, 128]⟩ v h (ix2 r j) = v (ix2 0 j) :=
  broadcastTo_apply v h (ix2 r j) (ix2 0 j) fun a => by
    match a with
    | ⟨0, _⟩ => rfl
    | ⟨1, _⟩ => rfl

/-- The scaled second operand. -/
theorem k1_pay3_apply (z : Vec Ideal S10000x128 .bf16) (n : Fin 10000) (j : Fin 128) :
    k1_pay3 (F := Ideal) z (ix2 n j)
      = z (ix2 n j) * Ideal.div ((256 : ℝ) : EReal) (scale (least : EReal) fun n : Fin 10000 => z (ix2 n j)) := by
  unfold k1_pay3
  rw [shapeCast_self, truncf_apply, mulf_apply, k1_pay1_apply]
  refine congrArg (z (ix2 n j) * ·) ?_
  refine (rows_apply _ broadcasts_S1x128_S10000x128 n j).trans ?_
  rw [divf_apply, k1_pay2_apply, broadcast_apply]
  exact congrArg (Ideal.div · _) word_q

/-- The factors that undo the scales. -/
theorem k1_pay4_apply (z : Vec Ideal S10000x128 .bf16) (o : Fin 1) (j : Fin 128) :
    k1_pay4 (F := Ideal) z (ix2 o j) = scale (least : EReal) (fun n : Fin 10000 => z (ix2 n j)) * ((1 / 655360000 : ℝ) : EReal) := by
  unfold k1_pay4
  rw [shapeCast_self, mulf_apply, k1_pay2_apply, broadcast_apply]
  rfl

/-- The second pass's stored value. -/
theorem k1_pay5_apply (b : Vec Ideal S1000x10000 .fp8e4m3) (q : Vec Ideal S10000x128 .fp8e4m3) (u : Vec Ideal S1x128 .f32) (r : Fin 1000) (j : Fin 128) :
    k1_pay5 (F := Ideal) b q u (ix2 r j) = (∑ n : Fin 10000, b (ix2 r n) * q (ix2 n j)) * u (ix2 0 j) := by
  unfold k1_pay5
  rw [mulf_apply, shapeCast_self]
  exact congrArg₂ (· * ·) (prod_apply dot_S1000x10000_S10000x128_S1000x128_1_0_0_1_n_n rfl b q r j) (rows_apply u broadcasts_S1x128_S1000x128 r j)

end Cert.KernelIdeal.Val

end
-- ==== Proof.KernelIdeal.Value.lean ====
/- The arrays the two passes leave, as functions of the arguments: the hidden layer and the scaled first operand after the first
   pass, the result after the second. -/
module

public import proofs.«01_k».proof.Proof.KernelIdeal.Payload
public import proofs.«01_k».proof.Proof.KernelIdeal.Run

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.ValueIdx Idealize.SL.Sem
open Idealize.ShloMosaic.Pipeline (Dat)
open Cert.TwoPass
open scoped BigOperators

/-- A rank-2 array as a function of its coordinates. -/
abbrev mat {M N : ℕ} (v : (⟨2, ![M, N]⟩ : Shape).Idx → EReal) (i : Fin M) (j : Fin N) : EReal := v (ix2 i j)

variable (V : Bufs Ideal) (c : Dev nD)

/-! ## The first pass -/

/-- Its arguments at entry. -/
abbrev argA : S10000x10000.Idx → EReal := V c (Proc.devRef .tc main_arg1)
abbrev argX : S10000x256.Idx → EReal := V c (Proc.devRef .tc main_arg0)
abbrev argW₁ : S256x256.Idx → EReal := V c (Proc.devRef .tc main_arg2)
abbrev argW₂ : S256x128.Idx → EReal := V c (Proc.devRef .tc main_arg3)

/-- Row `r` of point `t`'s block of 400 rows. -/
def row0 (t : Fin cfg0.N) (r : Fin 400) : Fin 10000 :=
  ⟨t.val * 400 + r.val, by have := t.isLt; have : cfg0.N = 25 := N_0; omega⟩

/-- The block indices of the first pass's windows at every point. -/
theorem index0 : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0] := by decide +kernel

/-- The first input's block holds its rows of `A`, -/
theorem blk0_0_apply (t : Fin cfg0.N) (r : Fin 400) (n : Fin 10000) : blk0 V c 0 t (ix2 r n) = argA V c (ix2 (row0 t r) n) := by
  have h := (index0 t).1
  refine congrArg (argA V c) (funext fun a => Fin.ext ?_)
  match a with
  | ⟨0, _⟩ => show win0_0.index t 0 * 400 + 1 * r.val = t.val * 400 + r.val; rw [h]; show t.val * 400 + 1 * r.val = _; omega
  | ⟨1, _⟩ => show win0_0.index t 1 * 10000 + 1 * n.val = n.val; rw [h]; show 0 * 10000 + 1 * n.val = _; omega

/-- the others' blocks are their arrays. -/
theorem blk0_1_apply (t : Fin cfg0.N) (n : Fin 10000) (k : Fin 256) : blk0 V c 1 t (ix2 n k) = argX V c (ix2 n k) := by
  have h := (index0 t).2.1
  refine congrArg (argX V c) (funext fun a => Fin.ext ?_)
  match a with
  | ⟨0, _⟩ => show win0_1.index t 0 * 10000 + 1 * n.val = n.val; rw [h]; show 0 * 10000 + 1 * n.val = _; omega
  | ⟨1, _⟩ => show win0_1.index t 1 * 256 + 1 * k.val = k.val; rw [h]; show 0 * 256 + 1 * k.val = _; omega
theorem blk0_2_apply (t : Fin cfg0.N) (k : Fin 256) (l : Fin 256) : blk0 V c 2 t (ix2 k l) = argW₁ V c (ix2 k l) := by
  have h := (index0 t).2.2.1
  refine congrArg (argW₁ V c) (funext fun a => Fin.ext ?_)
  match a with
  | ⟨0, _⟩ => show win0_2.index t 0 * 256 + 1 * k.val = k.val; rw [h]; show 0 * 256 + 1 * k.val = _; omega
  | ⟨1, _⟩ => show win0_2.index t 1 * 256 + 1 * l.val = l.val; rw [h]; show 0 * 256 + 1 * l.val = _; omega
theorem blk0_3_apply (t : Fin cfg0.N) (l : Fin 256) (j : Fin 128) : blk0 V c 3 t (ix2 l j) = argW₂ V c (ix2 l j) := by
  have h := (index0 t).2.2.2.1
  refine congrArg (argW₂ V c) (funext fun a => Fin.ext ?_)
  match a with
  | ⟨0, _⟩ => show win0_3.index t 0 * 256 + 1 * l.val = l.val; rw [h]; show 0 * 256 + 1 * l.val = _; omega
  | ⟨1, _⟩ => show win0_3.index t 1 * 128 + 1 * j.val = j.val; rw [h]; show 0 * 128 + 1 * j.val = _; omega

/-- The hidden layer, as an array. -/
def hiddenArr : S10000x128.Idx → EReal := fun i =>
  hidden (mat (argA V c)) (mat (argX V c)) (mat (argW₁ V c)) (mat (argW₂ V c)) (i 0) (i 1)

/-- The scaled first operand, as an array. -/
def scaledArr : S10000x10000.Idx → EReal := fun i => argA V c i * ((2560000 : ℝ) : EReal)

/-- Every point writes back its block of the hidden layer, -/
theorem flushed0_4 (t : Fin cfg0.N) :
    (dat0 V c).flushed 4 t = ((cfg0.win 4).blk t).view.read (Elt Ideal) (hiddenArr V c) := by
  show (cfg0.win 4).cut (grid0.coords t) ((dat0 V c).after 4 t) = _
  rw [dat0_after_4]
  funext i
  obtain ⟨r, j, rfl⟩ : ∃ (r : Fin 400) (j : Fin 128), i = ix2 r j := ⟨i 0, i 1, eq_ix2 i⟩
  have h := (index0 t).2.2.2.2.1
  have hi : ((cfg0.win 4).blk t).view.emb (ix2 r j) = ix2 (row0 t r) j := by
    funext a; apply Fin.ext
    match a with
    | ⟨0, _⟩ => show win0_4.index t 0 * 400 + 1 * r.val = t.val * 400 + r.val; rw [h]; show t.val * 400 + 1 * r.val = _; omega
    | ⟨1, _⟩ => show win0_4.index t 1 * 128 + 1 * j.val = j.val; rw [h]; show 0 * 128 + 1 * j.val = _; omega
  show k0_pay1 (F := Ideal) (blk0 V c 0 t) (blk0 V c 1 t) (blk0 V c 2 t) (blk0 V c 3 t) (ix2 r j)
    = hiddenArr V c (((cfg0.win 4).blk t).view.emb (ix2 r j))
  rw [hi, k0_pay1_apply]
  simp only [blk0_0_apply, blk0_1_apply, blk0_2_apply, blk0_3_apply]
  rfl

/-- and of the scaled first operand. -/
theorem flushed0_5 (t : Fin cfg0.N) :
    (dat0 V c).flushed 5 t = ((cfg0.win 5).blk t).view.read (Elt Ideal) (scaledArr V c) := by
  show (cfg0.win 5).cut (grid0.coords t) ((dat0 V c).after 5 t) = _
  rw [dat0_after_5]
  funext i
  obtain ⟨r, n, rfl⟩ : ∃ (r : Fin 400) (n : Fin 10000), i = ix2 r n := ⟨i 0, i 1, eq_ix2 i⟩
  have h := (index0 t).2.2.2.2.2
  have hi : ((cfg0.win 5).blk t).view.emb (ix2 r n) = ix2 (row0 t r) n := by
    funext a; apply Fin.ext
    match a with
    | ⟨0, _⟩ => show win0_5.index t 0 * 400 + 1 * r.val = t.val * 400 + r.val; rw [h]; show t.val * 400 + 1 * r.val = _; omega
    | ⟨1, _⟩ => show win0_5.index t 1 * 10000 + 1 * n.val = n.val; rw [h]; show 0 * 10000 + 1 * n.val = _; omega
  show k0_pay2 (F := Ideal) (blk0 V c 0 t) (ix2 r n) = scaledArr V c (((cfg0.win 5).blk t).view.emb (ix2 r n))
  rw [hi, k0_pay2_apply, blk0_0_apply]
  rfl

/-- The blocks of the hidden layer cover it, -/
theorem cover0_4 (i : S10000x128.Idx) : ∃ t : Fin cfg0.N, (cfg0.win 4).flush t = true ∧ i ∈ ((cfg0.win 4).blk t).view.set := by
  have h0 : (i 0).val < 10000 := (i 0).isLt
  have hN : cfg0.N = 25 := N_0
  refine ⟨⟨(i 0).val / 400, by omega⟩, flush0_4 _, ?_⟩
  generalize ht : (⟨(i 0).val / 400, by omega⟩ : Fin cfg0.N) = t
  have hv : t.val = (i 0).val / 400 := by rw [← ht]
  have h := (index0 t).2.2.2.2.1
  have h1 : (i 1).val < 128 := (i 1).isLt
  show i ∈ ((View.whole main_v0_0).slice (win0_4.rect t)).set
  rw [View.set_slice_whole, Rect.mem_set_unit]
  intro a
  match a with
  | ⟨0, _⟩ => show win0_4.index t 0 * 400 ≤ (i 0).val ∧ (i 0).val < win0_4.index t 0 * 400 + 400
              rw [h]; show t.val * 400 ≤ (i 0).val ∧ (i 0).val < t.val * 400 + 400; omega
  | ⟨1, _⟩ => show win0_4.index t 1 * 128 ≤ (i 1).val ∧ (i 1).val < win0_4.index t 1 * 128 + 128
              rw [h]; show 0 * 128 ≤ (i 1).val ∧ (i 1).val < 0 * 128 + 128; omega

/-- and so do those of the scaled first operand. -/
theorem cover0_5 (i : S10000x10000.Idx) : ∃ t : Fin cfg0.N, (cfg0.win 5).flush t = true ∧ i ∈ ((cfg0.win 5).blk t).view.set := by
  have h0 : (i 0).val < 10000 := (i 0).isLt
  have hN : cfg0.N = 25 := N_0
  refine ⟨⟨(i 0).val / 400, by omega⟩, flush0_5 _, ?_⟩
  generalize ht : (⟨(i 0).val / 400, by omega⟩ : Fin cfg0.N) = t
  have hv : t.val = (i 0).val / 400 := by rw [← ht]
  have h := (index0 t).2.2.2.2.2
  have h1 : (i 1).val < 10000 := (i 1).isLt
  show i ∈ ((View.whole main_v0_1).slice (win0_5.rect t)).set
  rw [View.set_slice_whole, Rect.mem_set_unit]
  intro a
  match a with
  | ⟨0, _⟩ => show win0_5.index t 0 * 400 ≤ (i 0).val ∧ (i 0).val < win0_5.index t 0 * 400 + 400
              rw [h]; show t.val * 400 ≤ (i 0).val ∧ (i 0).val < t.val * 400 + 400; omega
  | ⟨1, _⟩ => show win0_5.index t 1 * 10000 ≤ (i 1).val ∧ (i 1).val < win0_5.index t 1 * 10000 + 10000
              rw [h]; show 0 * 10000 ≤ (i 1).val ∧ (i 1).val < 0 * 10000 + 10000; omega

/-- The first pass leaves the hidden layer, -/
theorem final0_4 : (dat0 V c).arrAt 4 cfg0.N = hiddenArr V c :=
  (dat0 V c).arrAt_eq_of_cover 4 (hiddenArr V c) (fun t _ => flushed0_4 V c t) cover0_4

/-- and the scaled first operand. -/
theorem final0_5 : (dat0 V c).arrAt 5 cfg0.N = scaledArr V c :=
  (dat0 V c).arrAt_eq_of_cover 5 (scaledArr V c) (fun t _ => flushed0_5 V c t) cover0_5

/-! ## The second pass -/

/-- Its inputs at entry. -/
abbrev inQ : S10000x10000.Idx → EReal := V c (Proc.devRef .tc main_v0_1)
abbrev inZ : S10000x128.Idx → EReal := V c (Proc.devRef .tc main_v0_0)

/-- Row `r` of point `t`'s block of 1000 rows. -/
def row1 (t : Fin cfg1.N) (r : Fin 1000) : Fin 10000 :=
  ⟨t.val * 1000 + r.val, by have := t.isLt; have : cfg1.N = 10 := N_1; omega⟩

/-- The block indices of the second pass's windows at every point. -/
theorem index1 : ∀ t : Fin grid1.N, win1_0.index t = ![t.val, 0] ∧ win1_1.index t = ![0, 0] ∧ win1_2.index t = ![t.val, 0] := by
  decide +kernel

/-- The first input's block holds its rows, -/
theorem blk1_0_apply (t : Fin cfg1.N) (r : Fin 1000) (n : Fin 10000) : blk1 V c 0 t (ix2 r n) = inQ V c (ix2 (row1 t r) n) := by
  have h := (index1 t).1
  refine congrArg (inQ V c) (funext fun a => Fin.ext ?_)
  match a with
  | ⟨0, _⟩ => show win1_0.index t 0 * 1000 + 1 * r.val = t.val * 1000 + r.val; rw [h]; show t.val * 1000 + 1 * r.val = _; omega
  | ⟨1, _⟩ => show win1_0.index t 1 * 10000 + 1 * n.val = n.val; rw [h]; show 0 * 10000 + 1 * n.val = _; omega

/-- the second's is its array. -/
theorem whole1_apply (n : Fin 10000) (j : Fin 128) : whole1 V c (ix2 n j) = inZ V c (ix2 n j) := by
  have h := (index1 t1_0).2.1
  refine congrArg (inZ V c) (funext fun a => Fin.ext ?_)
  match a with
  | ⟨0, _⟩ => show win1_1.index t1_0 0 * 10000 + 1 * n.val = n.val; rw [h]; show 0 * 10000 + 1 * n.val = _; omega
  | ⟨1, _⟩ => show win1_1.index t1_0 1 * 128 + 1 * j.val = j.val; rw [h]; show 0 * 128 + 1 * j.val = _; omega

/-- The result, as an array. -/
def resultArr : S10000x128.Idx → EReal := fun i =>
  (∑ n : Fin 10000, inQ V c (ix2 (i 0) n)
      * (inZ V c (ix2 n (i 1)) * Ideal.div ((256 : ℝ) : EReal) (scale (least : EReal) fun n : Fin 10000 => inZ V c (ix2 n (i 1)))))
    * (scale (least : EReal) (fun n : Fin 10000 => inZ V c (ix2 n (i 1))) * ((1 / 655360000 : ℝ) : EReal))

/-- Every point writes back its block of the result. -/
theorem flushed1_2 (t : Fin cfg1.N) :
    (dat1 V c).flushed 2 t = ((cfg1.win 2).blk t).view.read (Elt Ideal) (resultArr V c) := by
  show (cfg1.win 2).cut (grid1.coords t) ((dat1 V c).after 2 t) = _
  rw [dat1_after_2]
  funext i
  obtain ⟨r, j, rfl⟩ : ∃ (r : Fin 1000) (j : Fin 128), i = ix2 r j := ⟨i 0, i 1, eq_ix2 i⟩
  have h := (index1 t).2.2
  have hi : ((cfg1.win 2).blk t).view.emb (ix2 r j) = ix2 (row1 t r) j := by
    funext a; apply Fin.ext
    match a with
    | ⟨0, _⟩ => show win1_2.index t 0 * 1000 + 1 * r.val = t.val * 1000 + r.val; rw [h]; show t.val * 1000 + 1 * r.val = _; omega
    | ⟨1, _⟩ => show win1_2.index t 1 * 128 + 1 * j.val = j.val; rw [h]; show 0 * 128 + 1 * j.val = _; omega
  show k1_pay5 (F := Ideal) (blk1 V c 0 t) (k1_pay3 (whole1 V c)) (k1_pay4 (whole1 V c)) (ix2 r j)
    = resultArr V c (((cfg1.win 2).blk t).view.emb (ix2 r j))
  rw [hi, k1_pay5_apply]
  simp only [k1_pay3_apply, k1_pay4_apply, blk1_0_apply, whole1_apply]
  rfl

/-- The blocks of the result cover it. -/
theorem cover1_2 (i : S10000x128.Idx) : ∃ t : Fin cfg1.N, (cfg1.win 2).flush t = true ∧ i ∈ ((cfg1.win 2).blk t).view.set := by
  have h0 : (i 0).val < 10000 := (i 0).isLt
  have hN : cfg1.N = 10 := N_1
  refine ⟨⟨(i 0).val / 1000, by omega⟩, flush1_2 _, ?_⟩
  generalize ht : (⟨(i 0).val / 1000, by omega⟩ : Fin cfg1.N) = t
  have hv : t.val = (i 0).val / 1000 := by rw [← ht]
  have h := (index1 t).2.2
  have h1 : (i 1).val < 128 := (i 1).isLt
  show i ∈ ((View.whole main_v1).slice (win1_2.rect t)).set
  rw [View.set_slice_whole, Rect.mem_set_unit]
  intro a
  match a with
  | ⟨0, _⟩ => show win1_2.index t 0 * 1000 ≤ (i 0).val ∧ (i 0).val < win1_2.index t 0 * 1000 + 1000
              rw [h]; show t.val * 1000 ≤ (i 0).val ∧ (i 0).val < t.val * 1000 + 1000; omega
  | ⟨1, _⟩ => show win1_2.index t 1 * 128 ≤ (i 1).val ∧ (i 1).val < win1_2.index t 1 * 128 + 128
              rw [h]; show 0 * 128 ≤ (i 1).val ∧ (i 1).val < 0 * 128 + 128; omega

/-- The second pass leaves the result. -/
theorem final1_2 : (dat1 V c).arrAt 2 cfg1.N = resultArr V c :=
  (dat1 V c).arrAt_eq_of_cover 2 (resultArr V c) (fun t _ => flushed1_2 V c t) cover1_2

/-! ## Both passes -/

variable (m : (ℓ : Loc nD τ sig) → Buf (Elt Ideal) ℓ)

/-- After both passes the result array holds, at every row and column, the scaled product of the two arrays the first pass
    left. -/
theorem final_apply (i : Fin 10000) (j : Fin 128) :
    ((dat1 (bufs1 m) c).arrAt 2 cfg1.N : S10000x128.Idx → EReal) (ix2 i j)
      = scaled ((2560000 : ℝ) : EReal) ((256 : ℝ) : EReal) ((1 / 655360000 : ℝ) : EReal) (least : EReal) (mat (argA (bufs0 m) c))
          (hidden (mat (argA (bufs0 m) c)) (mat (argX (bufs0 m) c)) (mat (argW₁ (bufs0 m) c)) (mat (argW₂ (bufs0 m) c))) i j := by
  rw [final1_2]
  have hq : inQ (bufs1 m) c = scaledArr (bufs0 m) c := (bufs1_scaled m c).trans (final0_5 (bufs0 m) c)
  have hz : inZ (bufs1 m) c = hiddenArr (bufs0 m) c := (bufs1_hidden m c).trans (final0_4 (bufs0 m) c)
  unfold resultArr scaled
  rw [hq, hz]
  rfl

end Cert.KernelIdeal.Val

end
-- ==== Proof.ReferenceIdeal.Value.lean ====
/- The reference's result at the ideal instance, at a row and a column. -/
module

public import proofs.«01_k».proof.Proof.Gen.ReferenceIdeal.Read
public import proofs.«01_k».proof.Proof.Math

@[expose] public section

noncomputable section

namespace Cert.ReferenceIdeal.Val

open Cert.ReferenceIdeal Cert.ReferenceIdeal.Gen Cert.ReferenceIdeal.Read
open Idealize.ShloMosaic Idealize.ShloMosaic.ValueIdx
open Cert.TwoPass
open scoped BigOperators

variable (x : S10000x256.Idx → EReal) (a : S10000x10000.Idx → EReal) (w₁ : S256x256.Idx → EReal) (w₂ : S256x128.Idx → EReal)

/-- `X · W₁`. -/
theorem support_apply (n : Fin 10000) (l : Fin 256) :
    val_main_v0 (F := Ideal) x w₁ (ix2 n l) = ∑ k : Fin 256, x (ix2 n k) * w₁ (ix2 k l) := by
  rw [val_main_v0_apply]
  refine Finset.sum_congr rfl fun k _ => ?_
  rw [eq_ix2 (lidx_main_v0 _ _), eq_ix2 (ridx_main_v0 _ _)]; rfl

/-- `A · (X · W₁)`. -/
theorem layer_apply (n : Fin 10000) (l : Fin 256) :
    val_main_v1 (F := Ideal) x a w₁ (ix2 n l) = ∑ k : Fin 10000, a (ix2 n k) * ∑ q : Fin 256, x (ix2 k q) * w₁ (ix2 q l) := by
  rw [val_main_v1_apply]
  refine Finset.sum_congr rfl fun k _ => ?_
  rw [eq_ix2 (lidx_main_v1 _ _), eq_ix2 (ridx_main_v1 _ _)]
  exact congrArg (a (ix2 n k) * ·) (support_apply x w₁ k l)

/-- Its positive part. -/
theorem relu_apply (n : Fin 10000) (l : Fin 256) :
    val_main_v3 (F := Ideal) x a w₁ (ix2 n l) = max (∑ k : Fin 10000, a (ix2 n k) * ∑ q : Fin 256, x (ix2 k q) * w₁ (ix2 q l)) 0 := by
  rw [val_main_v3_apply, layer_apply, val_main_v2_apply, val_main_cst_apply]
  exact congrArg (max _) Ideal.ofBits_zero_f32

/-- The hidden layer. -/
theorem hidden_apply (n : Fin 10000) (j : Fin 128) :
    val_main_v4 (F := Ideal) x a w₁ w₂ (ix2 n j)
      = hiddenRef (fun n k => a (ix2 n k)) (fun n k => x (ix2 n k)) (fun k l => w₁ (ix2 k l)) (fun l j => w₂ (ix2 l j)) n j := by
  rw [val_main_v4_apply]
  refine Finset.sum_congr rfl fun l _ => ?_
  rw [eq_ix2 (lidx_main_v4 _ _), eq_ix2 (ridx_main_v4 _ _)]
  exact congrArg (· * w₂ (ix2 l j)) (relu_apply x a w₁ n l)

/-- The result: `A` times the hidden layer. -/
theorem result_apply (i : Fin 10000) (j : Fin 128) :
    val_main_v5 (F := Ideal) x a w₁ w₂ (ix2 i j)
      = ∑ n : Fin 10000, a (ix2 i n)
          * hiddenRef (fun n k => a (ix2 n k)) (fun n k => x (ix2 n k)) (fun k l => w₁ (ix2 k l)) (fun l j => w₂ (ix2 l j)) n j := by
  rw [val_main_v5_apply]
  refine Finset.sum_congr rfl fun n _ => ?_
  rw [eq_ix2 (lidx_main_v5 _ _), eq_ix2 (ridx_main_v5 _ _)]
  exact congrArg (a (ix2 i n) * ·) (hidden_apply x a w₁ w₂ n j)

end Cert.ReferenceIdeal.Val

end
-- ==== Proof.Finite.lean ====
/- What the precondition says of the arguments at the ideal instance: every element of the four arrays is a real number. -/
module

public import proofs.«01_k».proof.Pre_all_finite
public import proofs.«01_k».proof.Proof.Math
public import Idealize.ShloMosaic.Lib.ReduceAll
public import Idealize.ShloMosaic.Lib.Pipeline.Value
public import Idealize.ShloMosaic.PureOps.Ideal.Laws

@[expose] public section

noncomputable section

namespace Cert.Finite

open Idealize.ShloMosaic

instance : Subsingleton (⟨0, ![]⟩ : Shape).Idx := ⟨fun _ _ => funext fun a => a.elim0⟩

/-- If `|x| < +∞`, compared element by element and reduced by `and` over every axis, came out 1, then every element of `x` is a
    real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
        (cmpf .olt (Host.absf x) (broadcastInDim s ![] hb (constant (F := Ideal) (⟨0, ![]⟩ : Shape) .f32 0x7F800000#32)))
        (constantI (⟨0, ![]⟩ : Shape) 1 1#1) hr hu j = 1#1) (i : s.Idx) : ∃ v : ℝ, x i = (v : EReal) := by
  have h1 := Host.reduce_andi_all _ _ hr hu j h i
  have hc : broadcastInDim s ![] hb (constant (F := Ideal) (⟨0, ![]⟩ : Shape) .f32 0x7F800000#32) i = (⊤ : EReal) :=
    (broadcastInDim_apply _ hb _ i (fun a => a.elim0) (fun a => a.elim0)).trans Cert.TwoPass.word_top
  have h2 : Ideal.cmp .olt (max (x i) (-(x i))) (broadcastInDim s ![] hb (constant (F := Ideal) (⟨0, ![]⟩ : Shape) .f32 0x7F800000#32) i) = 1#1 := h1
  rw [hc] at h2
  refine Cert.TwoPass.real_of_abs_lt ?_
  by_contra hn
  have h3 : BitVec.ofBool (decide (max (x i) (-(x i)) < ⊤)) = 1#1 := h2
  rw [decide_eq_false hn] at h3
  exact absurd h3 (by decide)

/-- The precondition, read: all four arrays hold real numbers. -/
theorem reals [Cert.Pre_all_finite.Facts] (x : FVec Ideal Cert.Pre_all_finite.S10000x256 .f32) (a : FVec Ideal Cert.Pre_all_finite.S10000x10000 .f32)
    (w₁ : FVec Ideal Cert.Pre_all_finite.S256x256 .f32) (w₂ : FVec Ideal Cert.Pre_all_finite.S256x128 .f32)
    (h : Cert.Pre_all_finite.fn (F := Ideal) x a w₁ w₂ = fun _ => 1#1) :
    (∀ i, ∃ v : ℝ, x i = (v : EReal)) ∧ (∀ i, ∃ v : ℝ, a i = (v : EReal)) ∧ (∀ i, ∃ v : ℝ, w₁ i = (v : EReal))
      ∧ (∀ i, ∃ v : ℝ, w₂ i = (v : EReal)) := by
  have j : Cert.Pre_all_finite.S_.Idx := fun b => b.elim0
  have h0 := congrFun h j
  obtain ⟨h13, h17⟩ := IntOp.andi_eq_one.1 h0
  obtain ⟨h8, h12⟩ := IntOp.andi_eq_one.1 h13
  obtain ⟨h3, h7⟩ := IntOp.andi_eq_one.1 h8
  exact ⟨real_of_all x _ _ _ j h3, real_of_all a _ _ _ j h7, real_of_all w₁ _ _ _ j h12, real_of_all w₂ _ _ _ j h17⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.KernelIdeal.Value
public import proofs.«01_k».proof.Proof.ReferenceIdeal.Value
public import proofs.«01_k».proof.Proof.Finite
public import proofs.«01_k».proof.Proof.Gen.Pre_all_finite
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem
open Cert.TwoPass

/-- The kernel terminates, leaves its arguments unchanged and every counter at zero. -/
theorem frame_kernel : Cert.quiescent_Kernel := fun m g _ =>
  (θ_run Cert.Kernel.defs _ _).mono (fun _ h => ⟨fun c => let ⟨h0, h1, h2, h3, _⟩ := h.1 c; ⟨h0, h1, h2, h3⟩, h.2⟩) (Cert.Kernel.Run.run (F := Bits) m g)

/-- Its idealization likewise, -/
theorem frame_ideal : Cert.quiescent_KernelIdeal := fun m g _ =>
  (θ_run Cert.KernelIdeal.defs _ _).mono (fun _ h => ⟨fun c => let ⟨h0, h1, h2, h3, _⟩ := h.1 c; ⟨h0, h1, h2, h3⟩, h.2⟩) (Cert.KernelIdeal.Run.run (F := Ideal) m g)

/-- and the reference, which declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- For real arguments the array the second pass leaves is the reference's result. -/
theorem value_eq (m : (ℓ : Loc Cert.KernelIdeal.nD Cert.KernelIdeal.τ Cert.KernelIdeal.sig) → Buf (Elt Ideal) ℓ)
    (hpre : Cert.Pre_KernelIdeal_all_finite m) (c : Dev Cert.KernelIdeal.nD) :
    (Cert.KernelIdeal.Run.dat1 (Cert.KernelIdeal.Run.bufs1 m) c).arrAt 2 Cert.KernelIdeal.cfg1.N
      = Cert.ReferenceIdeal.Read.val_main_v5 (F := Ideal) (Cert.KernelIdeal.Val.argX (Cert.KernelIdeal.Run.bufs0 m) c)
          (Cert.KernelIdeal.Val.argA (Cert.KernelIdeal.Run.bufs0 m) c) (Cert.KernelIdeal.Val.argW₁ (Cert.KernelIdeal.Run.bufs0 m) c)
          (Cert.KernelIdeal.Val.argW₂ (Cert.KernelIdeal.Run.bufs0 m) c) := by
  obtain ⟨hX, hA, hW₁, hW₂⟩ := Cert.Finite.reals _ _ _ _ (hpre c)
  refine funext fun (i : Cert.KernelIdeal.S10000x128.Idx) => ?_
  obtain ⟨r, j, rfl⟩ : ∃ (r : Fin 10000) (j : Fin 128), i = ix2 r j := ⟨i 0, i 1, eq_ix2 i⟩
  refine (Cert.KernelIdeal.Val.final_apply c m r j).trans ?_
  refine (result_eq 2560000 256 (1 / 655360000) Cert.KernelIdeal.Val.least Cert.KernelIdeal.Val.least_pos (by norm_num) _ _ _ _
    (fun i n => hA (ix2 i n)) (fun n k => hX (ix2 n k)) (fun k l => hW₁ (ix2 k l)) (fun l j => hW₂ (ix2 l j)) r j).trans ?_
  exact (Cert.ReferenceIdeal.Val.result_apply _ _ _ _ r j).symm

/-- The idealization and the reference end with equal results. -/
theorem results_equal : Cert.algebraic_KernelIdeal_ReferenceIdeal_pre_all_finite := by
  intro m g m' g' hpre hagree
  refine ⟨fun c => (Cert.KernelIdeal.Run.dat1 (Cert.KernelIdeal.Run.bufs1 m) c).arrAt 2 Cert.KernelIdeal.cfg1.N,
    (θ_run Cert.KernelIdeal.defs _ _).mono (fun _ h c => let ⟨h0, h1, h2, h3, hv⟩ := h.1 c; ⟨hv, h0, h1, h2, h3⟩) (Cert.KernelIdeal.Run.run (F := Ideal) m g),
    (θ_run Cert.ReferenceIdeal.defs _ _).mono (fun _ h c => ⟨?_, (h c).2⟩) (Cert.ReferenceIdeal.Value.run (F := Ideal) m' g')⟩
  refine (h c).1.trans ((Cert.ReferenceIdeal.Read.val_main_v5_eq _ _ _ _).trans ?_)
  obtain ⟨h0, h1, h2, h3⟩ := hagree c
  rw [h0, h1, h2, h3]
  exact (value_eq m hpre c).symm

theorem claim : Cert.Claim :=
  ⟨Cert.Kernel.Gen.facts, Cert.KernelIdeal.Gen.facts, Cert.ReferenceIdeal.Gen.facts, Cert.Pre_all_finite.Gen.facts,
    frame_kernel, frame_ideal, fun m g _ => frame_ideal m g trivial, frame_reference, fun m g _ => frame_reference m g trivial,
    IdealRules.named_const.statement Cert.KernelIdeal.κ "unscale" .f32 0x30D1B717#32 ((1 / 655360000 : ℝ) : EReal) rfl,
    results_equal⟩

end Cert.Proof

end
